-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "tile_decay" .f32 0x3D204E6E#32 ((453178919274912831915189120807561865040503845007621116468001391297434176503253215817195670478388246165496996983395827143892744369600066375850401018055831034220789035404697449554322386251239570236084935681 / 11579208923731619542357098500868790785326998466564056403945758400791312963993600000000000000000000000000000000000000000000000000000000000000000000000000000000000000000000000000000000000000000000000000000000 : ℝ) : EReal)
  ∧ IdealRules.named_const.Statement Cert.KernelIdeal.κ "log2e" .f32 0x3FB8AA3B#32 (((Real.log 2)⁻¹ : ℝ) : EReal)

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S16x16384x128 : Shape := ⟨3, ![16, 16384, 128]⟩
abbrev S_ : Shape := ⟨0, ![]⟩

class Facts : Prop where
  bcast_S_S16x16384x128 : S_.BroadcastsInDim S16x16384x128 (![] : Fin 0 → Fin S16x16384x128.rank)

variable [Facts]

def fn {F : FTy → Type} [FloatOps F] (main_arg0 : FVec F S16x16384x128 .f32) : IVec S16x16384x128 1 :=
  let main_cst : FVec F S_ .f32 := constant S_ .f32 0x00000000#32
  let main_v0 : FVec F S16x16384x128 .f32 := broadcastInDim S16x16384x128 ![] bcast_S_S16x16384x128 main_cst
  let main_v1 : IVec S16x16384x128 1 := cmpf .oge main_arg0 main_v0
  main_v1
-- ==== Kernel.lean ====
abbrev S16x16384x128 : Shape := ⟨3, ![16, 16384, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x8192x128 : Shape := ⟨3, ![1, 8192, 128]⟩
abbrev S1x1x128 : Shape := ⟨3, ![1, 1, 128]⟩
abbrev S1x128x128 : Shape := ⟨3, ![1, 128, 128]⟩

abbrev nBuf : Space → Nat
  | .hbm => 25
  | .vmem => 6
  | .smem => 0
  | _ => 0

abbrev bufTy : (tb : Table) → Fin (tcTables nBuf tb) → BufTy
  | .hbm, ⟨0, _⟩ => ⟨S16x16384x128, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S128x128, .i32⟩
  | .hbm, ⟨12, _⟩ => ⟨S128x128, .i1⟩
  | .hbm, ⟨13, _⟩ => ⟨S_, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S16x16384x128, .f32⟩
  | .local _ .vmem, ⟨0, _⟩ => ⟨S128x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x128, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "log2e" => some (((Real.log 2)⁻¹ : ℝ) : EReal)
  | "tile_decay" => some ((453178919274912831915189120807561865040503845007621116468001391297434176503253215817195670478388246165496996983395827143892744369600066375850401018055831034220789035404697449554322386251239570236084935681 / 11579208923731619542357098500868790785326998466564056403945758400791312963993600000000000000000000000000000000000000000000000000000000000000000000000000000000000000000000000000000000000000000000000000000000 : ℝ) : EReal)
  | _ => none
-- ==== ReferenceIdeal.lean ====
abbrev S16x16384x128 : Shape := ⟨3, ![16, 16384, 128]⟩
abbrev S_ : Shape := ⟨0, ![]⟩
abbrev S16384x16x128 : Shape := ⟨3, ![16384, 16, 128]⟩
abbrev S1x16x128 : Shape := ⟨3, ![1, 16, 128]⟩
abbrev S16x128 : Shape := ⟨2, ![16, 128]⟩
abbrev S16383x16x128 : Shape := ⟨3, ![16383, 16, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S16384x16x128, .f32⟩
  | .hbm, ⟨5, _⟩ => ⟨S1x16x128, .f32⟩
  | .hbm, ⟨6, _⟩ => ⟨S16x128, .f32⟩
  | .hbm, ⟨7, _⟩ => ⟨S16383x16x128, .f32⟩
  | .hbm, ⟨8, _⟩ => ⟨S_, .f32⟩
  | .hbm, ⟨9, _⟩ => ⟨S16383x16x128, .f32⟩
  | .hbm, ⟨10, _⟩ => ⟨S_, .i32⟩
  | .hbm, ⟨11, _⟩ => ⟨S16383x16x128, .f32⟩
  | .hbm, ⟨12, _⟩ => ⟨S_, .f32⟩
  | .hbm, ⟨13, _⟩ => ⟨S_, .i32⟩
  | .hbm, ⟨14, _⟩ => ⟨S16x128, .f32⟩
  | .hbm, ⟨15, _⟩ => ⟨S16383x16x128, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x16x128, .f32⟩
  | .hbm, ⟨21, _⟩ => ⟨S16x128, .f32⟩
  | .hbm, ⟨22, _⟩ => ⟨S_, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S1x16x128, .f32⟩
  | .hbm, ⟨30, _⟩ => ⟨S_, .i32⟩
  | .hbm, ⟨31, _⟩ => ⟨S_, .i32⟩
  | .hbm, ⟨32, _⟩ => ⟨S16383x16x128, .f32⟩
  | .hbm, ⟨33, _⟩ => ⟨S_, .i32⟩
  | .hbm, ⟨34, _⟩ => ⟨S_, .i32⟩
  | .hbm, ⟨35, _⟩ => ⟨S1x16x128, .f32⟩
  | .hbm, ⟨36, _⟩ => ⟨S16384x16x128, .f32⟩
  | .hbm, ⟨37, _⟩ => ⟨S16x16384x128, .f32⟩
  | .hbm, ⟨38, _⟩ => ⟨S_, .f32⟩
  | .hbm, ⟨39, _⟩ => ⟨S16x16384x128, .f32⟩
  | .hbm, ⟨40, _⟩ => ⟨S16x16384x128, .f32⟩
  | .hbm, ⟨41, _⟩ => ⟨S_, .f32⟩
  | .hbm, ⟨42, _⟩ => ⟨S16x16384x128, .f32⟩
  | .hbm, ⟨43, _⟩ => ⟨S16x16384x128, .f32⟩
  | .hbm, ⟨44, _⟩ => ⟨S16x16384x128, .f32⟩
  | .hbm, ⟨45, _⟩ => ⟨S_, .f32⟩
  | .hbm, ⟨46, _⟩ => ⟨S16x16384x128, .f32⟩
  | .hbm, ⟨47, _⟩ => ⟨S16x16384x128, .f32⟩
  | .hbm, ⟨48, _⟩ => ⟨S_, .f32⟩
  | .hbm, ⟨49, _⟩ => ⟨S16x16384x128, .f32⟩
  | .hbm, ⟨50, _⟩ => ⟨S16x16384x128, .f32⟩
  | .hbm, ⟨51, _⟩ => ⟨S_, .f32⟩
  | .hbm, ⟨52, _⟩ => ⟨S16x16384x128, .f32⟩
  | .hbm, ⟨53, _⟩ => ⟨S16x16384x128, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_c : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_while0c_c_11 : Ref sig .tc := ⟨.hbm, 16, rfl⟩
abbrev main_while0c_v21 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v21 : Ref sig .tc := ⟨.hbm, 21, rfl⟩
abbrev main_while0b_cst_11 : Ref sig .tc := ⟨.hbm, 22, rfl⟩
abbrev main_while0b_v22 : Ref sig .tc := ⟨.hbm, 23, rfl⟩
abbrev main_while0b_v23 : Ref sig .tc := ⟨.hbm, 24, rfl⟩
abbrev main_while0b_v24 : Ref sig .tc := ⟨.hbm, 25, rfl⟩
abbrev main_while0b_v25 : Ref sig .tc := ⟨.hbm, 26, rfl⟩
abbrev main_while0b_v26 : Ref sig .tc := ⟨.hbm, 27, rfl⟩
abbrev main_while0b_v27 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_v28 : Ref sig .tc := ⟨.hbm, 32, rfl⟩
abbrev main_while0b_c_12 : Ref sig .tc := ⟨.hbm, 33, rfl⟩
abbrev main_while0b_v29 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_4 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]

abbrev main_while0_count : Scf.Loop 32 := ⟨0#32, 16383#32, 1#32⟩
-- ==== Proof.Body.lean ====
/- What one block of the kernel computes, as a recursion over its 64 tiles of 128 frames each. The body is printed as a
   straight line in which every tile is written out; here one tile is stated once, as two functions of the decay table,
   the carried row and the tile's frames (the output of the tile, and the row it carries on), and the stores of the body
   are shown to be those functions applied tile after tile. -/
module

public import proofs.«01_k».proof.Proof.Gen.KernelIdeal.Value
public import Idealize.ShloMosaic.Lib.WritesUnit

@[expose] public section

set_option maxRecDepth 16384

noncomputable section

namespace Cert.KernelIdeal.Body

open Idealize.ShloMosaic Idealize.ShloMosaic.TcCoe Idealize.ShloMosaic.Tactic Idealize.SL.Sem
open Cert.KernelIdeal.Gen

variable {F : FTy → Type} [FloatOps F] [Named F]

/-- The product of the decay table with the frames of a tile: the part of the smoothed energy the tile itself gives. -/
def tileProd (L : FVec F S128x128 .f32) (v : Vec F S1x128x128 .f32) : FVec F S128x128 .f32 :=
  matmul dot_S128x128_S128x128_S128x128_1_0_0_1_n_n none L (shapeCast S128x128 v shapeCasts_S1x128x128_S128x128)
    (constant S128x128 .f32 0x00000000#32)

/-- How the row carried into a tile decays over its frames: the table's first column times (1 - S) / S. -/
def decayCol (L : FVec F S128x128 .f32) : FVec F S128x1 .f32 :=
  mulf (extractStridedSlice S128x1 ![0, 0] L slices_S128x128_o0_0_S128x1)
    (broadcast S128x1 (Scalar.ofBits .f32 0x421C0000#32))

/-- The row a tile carries on: the last row of its product plus the decayed row it was given. -/
def nextCarry (L : FVec F S128x128 .f32) (r : FVec F S1x128 .f32) (v : Vec F S1x128x128 .f32) : FVec F S1x128 .f32 :=
  addf (extractStridedSlice S1x128 ![127, 0] (tileProd L v) slices_S128x128_o127_0_S1x128)
    (mulf (broadcast S1x128 (Named.named κ "tile_decay" 0x3D204E6E#32)) r)

/-- The smoothed energy over a tile: its product plus the carried row, decayed frame by frame. -/
def tileEnergy (L : FVec F S128x128 .f32) (d : FVec F S128x1 .f32) (r : FVec F S1x128 .f32)
    (v : Vec F S1x128x128 .f32) : FVec F S128x128 .f32 :=
  addf (tileProd L v) (mulf (broadcastTo S128x128 d broadcasts_S128x1_S128x128) (broadcastTo S128x128 r broadcasts_S1x128_S128x128))

/-- The gain-controlled value before the root: the frame times the energy to the power -α, plus 2. -/
def tileGain (e : FVec F S128x128 .f32) (v : Vec F S1x128x128 .f32) : FVec F S128x128 .f32 :=
  addf (mulf (shapeCast S128x128 v shapeCasts_S1x128x128_S128x128)
      (exp2 (mulf (mulf (log (addf e (broadcast S128x128 (Scalar.ofBits .f32 0x358637BD#32))))
          (broadcast S128x128 (Named.named κ "log2e" 0x3FB8AA3B#32)))
        (broadcast S128x128 (Scalar.ofBits .f32 0xBF7AE148#32)))))
    (broadcast S128x128 (Scalar.ofBits .f32 0x40000000#32))

/-- What a tile stores: the root of its gain-controlled values, less the root of 2. -/
def tileOut (L : FVec F S128x128 .f32) (d : FVec F S128x1 .f32) (r : FVec F S1x128 .f32) (v : Vec F S1x128x128 .f32) :
    FVec F S1x128x128 .f32 :=
  shapeCast S1x128x128
    (addf (mulf (rsqrt (tileGain (tileEnergy L d r v) v)) (tileGain (tileEnergy L d r v) v))
      (broadcast S128x128 (Scalar.ofBits .f32 0xBFB504F3#32))) shapeCasts_S128x128_S1x128x128

/-- The row carried into tile `n` of a block, from the row `r0` carried into the block. -/
def carryAt (L : FVec F S128x128 .f32) (ld : Fin 64 → Vec F S1x128x128 .f32) (r0 : FVec F S1x128 .f32) :
    (n : ℕ) → n ≤ 64 → FVec F S1x128 .f32
  | 0, _ => r0
  | n + 1, h => nextCarry L (carryAt L ld r0 n (Nat.le_of_succ_le h)) (ld ⟨n, h⟩)

/-- Tile `i` of a block starts at frame `128 i`. -/
def tileOff (i : Fin 64) : Fin 3 → ℕ := ![0, 128 * i.val, 0]

/-- Tile `i` lies inside the block. -/
theorem tileInb (i : Fin 64) (a : Fin 3) : tileOff i a + S1x128x128.size a ≤ S1x8192x128.size a := by
  have h := i.isLt
  fin_cases a
  · exact Nat.le_refl 1
  · show 128 * i.val + 128 ≤ 8192
    omega
  · exact Nat.le_refl 128

/-- The stores of a block: tile `i` stores `tileOut` of the row carried into it. -/
def tileStores (L : FVec F S128x128 .f32) (ld : Fin 64 → Vec F S1x128x128 .f32) (r0 : FVec F S1x128 .f32) :
    List (View.Piece (Elt F) S1x8192x128 .f32) :=
  View.tilePieces (s := S1x8192x128) S1x128x128.size tileOff tileInb
    (fun i => tileOut L (decayCol L) (carryAt L ld r0 i.val (Nat.le_of_lt i.isLt)) (ld i)) 64 (Nat.le_refl 64)

section Runs

variable (c : Dev nD) (i : grid0.Coords) (arg2 : Memref sig .tc .vmem S128x128 .f32) (harg2 : arg2.IsWhole)
  (arg3 : Memref sig .tc .vmem S1x8192x128 .f32) (harg3 : arg3.IsWhole)
  (arg4 : Memref sig .tc .vmem S1x8192x128 .f32) (harg4 : arg4.IsWhole)
  (arg5 : Memref sig .tc .vmem S1x128 .f32) (harg5 : arg5.IsWhole)
  (x0 : Vec F S128x128 .f32) (x1 : Vec F S1x8192x128 .f32) (xs0 : Vec F S1x128 .f32)

/-- The decay table as the body loads it. -/
def ldTable : FVec F S128x128 .f32 :=
  shapeCast S128x128 (View.readAt (Elt F) arg2.view (Rect.unit ![0, 0] S128x128.size inb_S128x128_S128x128_0_0).toLoadRect
    (harg2.unread x0)) shapeCasts_S128x128_S128x128

/-- Tile `i` of the block as the body loads it. -/
def ldTile (i : Fin 64) : Vec F S1x128x128 .f32 :=
  View.readAt (Elt F) arg3.view (Rect.unit (s := S1x8192x128) (tileOff i) S1x128x128.size (tileInb i)).toLoadRect (harg3.unread x1)

/-- The first store into the carried row at a batch's first block: the block's first frame. -/
def initStore : List (View.Piece (Elt F) S1x128 .f32) :=
  [⟨Rect.unit ![0, 0] S1x128.size inb_S1x128_S1x128_0_0, shapeCast S1x128 (shapeCast S1x128
    (View.readAt (Elt F) arg3.view (Rect.unit (s := S1x8192x128) ![0, 0, 0] S1x1x128.size inb_S1x8192x128_S1x1x128_0_0_0).toLoadRect (harg3.unread x1))
      shapeCasts_S1x1x128_S1x128) shapeCasts_S1x128_S1x128⟩]

/-- The carried row as a batch's first block loads it, just after that store. -/
def ldInit : FVec F S1x128 .f32 :=
  arg5.view.readCov (initStore arg3 harg3 x1) (Rect.unit ![0, 0] S1x128.size inb_S1x128_S1x128_0_0).toLoadRect

/-- The carried row as any other block loads it: what the block before left. -/
def ldCarry : FVec F S1x128 .f32 :=
  View.readAt (Elt F) arg5.view (Rect.unit ![0, 0] S1x128.size inb_S1x128_S1x128_0_0).toLoadRect (harg5.unread xs0)

/-- The store of the carried row at the end of a block. -/
def endStore (r : FVec F S1x128 .f32) : View.Piece (Elt F) S1x128 .f32 :=
  ⟨Rect.unit ![0, 0] S1x128.size inb_S1x128_S1x128_0_0, shapeCast S1x128 r shapeCasts_S1x128_S1x128⟩

/-- The output stores of a batch's first block are the tile recursion from its first frame. -/
theorem storesA (hc0 : cond0_0 i) :
    (kernelRun0_A c i arg2 harg2 arg3 harg3 arg4 harg4 arg5 harg5 hc0 x0 x1).1
      = tileStores (ldTable arg2 harg2 x0) (ldTile arg3 harg3 x1) (ldInit arg3 harg3 arg5 x1) := by
  sl_kernel_rfl

/-- The output stores of any other block are the tile recursion from the row the block before left. -/
theorem storesB (hc0 : ¬cond0_0 i) :
    (kernelRun0_B c i arg2 harg2 arg3 harg3 arg4 harg4 arg5 harg5 hc0 x0 x1 xs0).1
      = tileStores (ldTable arg2 harg2 x0) (ldTile arg3 harg3 x1) (ldCarry arg5 harg5 xs0) := by
  sl_kernel_rfl

/-- A batch's first block ends by storing the row carried out of its last tile. -/
theorem endA (hc0 : cond0_0 i) :
    (kernelRun0_A c i arg2 harg2 arg3 harg3 arg4 harg4 arg5 harg5 hc0 x0 x1).2.1
      = endStore (carryAt (ldTable arg2 harg2 x0) (ldTile arg3 harg3 x1) (ldInit arg3 harg3 arg5 x1) 64 (Nat.le_refl 64))
        :: initStore arg3 harg3 x1 := by
  sl_kernel_rfl

/-- Any other block ends by storing the row carried out of its last tile. -/
theorem endB (hc0 : ¬cond0_0 i) :
    (kernelRun0_B c i arg2 harg2 arg3 harg3 arg4 harg4 arg5 harg5 hc0 x0 x1 xs0).2.1
      = [endStore (carryAt (ldTable arg2 harg2 x0) (ldTile arg3 harg3 x1) (ldCarry arg5 harg5 xs0) 64 (Nat.le_refl 64))] := by
  sl_kernel_rfl

end Runs

end Cert.KernelIdeal.Body

end
-- ==== Proof.Smooth.lean ====
/- The smoothing of one channel, over the extended reals: the recurrence the reference runs frame by frame, and the sum
   the kernel takes over a tile of frames. No program is mentioned here. -/
module

public import Idealize.ShloMosaic.PureOps.Ideal

@[expose] public section

noncomputable section

namespace Cert.Smooth

/-- The share of a new frame in the smoothed energy: 1 / 40. -/
def gain : EReal := ((1 / 40 : ℝ) : EReal)

/-- The share of the past in the smoothed energy: 39 / 40. -/
def decay : EReal := ((39 / 40 : ℝ) : EReal)

/-- The gain is not negative. -/
theorem gain_nonneg : 0 ≤ gain := EReal.coe_nonneg.mpr (by norm_num)

/-- The decay is not negative. -/
theorem decay_nonneg : 0 ≤ decay := EReal.coe_nonneg.mpr (by norm_num)

/-- The decay is finite. -/
theorem decay_ne_top : decay ≠ ⊤ := EReal.coe_ne_top _

/-- The smoothed energy of a channel `x`: its first frame to begin with, then the decayed past and a share of the new
    frame. -/
def energy (x : ℕ → EReal) : ℕ → EReal
  | 0 => x 0
  | t + 1 => decay * energy x t + gain * x (t + 1)

/-- What is carried into frame `t`: the smoothed energy of the frame before, and the first frame itself into frame 0. -/
def before (x : ℕ → EReal) : ℕ → EReal
  | 0 => x 0
  | t + 1 => energy x t

/-- Every frame, the first included, is one step of the recurrence from what is carried into it. -/
theorem energy_step (x : ℕ → EReal) (t : ℕ) : energy x t = decay * before x t + gain * x t := by
  cases t with
  | zero =>
    show x 0 = decay * x 0 + gain * x 0
    rw [← EReal.right_distrib_of_nonneg decay_nonneg gain_nonneg]
    have h : decay + gain = 1 := by
      rw [decay, gain, ← EReal.coe_add]; norm_num
    rw [h, one_mul]
  | succ t => rfl

/-- The smoothed energy of a channel that is nowhere negative is nowhere negative. -/
theorem energy_nonneg {x : ℕ → EReal} (hx : ∀ t, 0 ≤ x t) : ∀ t, 0 ≤ energy x t
  | 0 => hx 0
  | t + 1 => add_nonneg (mul_nonneg decay_nonneg (energy_nonneg hx t)) (mul_nonneg gain_nonneg (hx _))

/-- Where a channel that is nowhere negative is infinite, so is its smoothed energy. -/
theorem energy_top {x : ℕ → EReal} (hx : ∀ t, 0 ≤ x t) (t : ℕ) (h : x t = ⊤) : energy x t = ⊤ := by
  cases t with
  | zero => exact h
  | succ t =>
    have hn : 0 ≤ decay * energy x t := mul_nonneg decay_nonneg (energy_nonneg hx t)
    show decay * energy x t + gain * x (t + 1) = ⊤
    rw [h, gain, EReal.coe_mul_top_of_pos (by norm_num)]
    exact EReal.add_top_of_ne_bot (fun hb => by rw [hb] at hn; exact absurd hn (by simp))

/-- The weight of frame `j` of a tile in the smoothed energy at frame `i` of the tile: gain times the decay over the
    frames between them, and 0 for a later frame. -/
def weight (i j : ℕ) : EReal := if j ≤ i then ((1 / 40 * (39 / 40) ^ (i - j) : ℝ) : EReal) else 0

/-- The share of the carried value in the smoothed energy at frame `i` of a tile. -/
def carried (i : ℕ) : EReal := (((39 / 40) ^ (i + 1) : ℝ) : EReal)

/-- A frame's own weight is the gain. -/
theorem weight_self (i : ℕ) : weight i i = gain := by
  simp [weight, gain]

/-- From one frame of a tile to the next the weights of the frames before decay once more. -/
theorem weight_succ (i j : ℕ) (h : j ≠ i + 1) : weight (i + 1) j = decay * weight i j := by
  unfold weight
  by_cases hj : j ≤ i
  · rw [if_pos hj, if_pos (by omega), decay, ← EReal.coe_mul, show i + 1 - j = (i - j) + 1 by omega, pow_succ]
    congr 1; ring
  · rw [if_neg hj, if_neg (by omega), mul_zero]

/-- One frame later the carried value counts less by the decay. -/
theorem carried_succ (i : ℕ) : carried (i + 1) = decay * carried i := by
  rw [carried, carried, decay, ← EReal.coe_mul, pow_succ _ (i + 1)]
  congr 1; ring

/-- A nonnegative finite factor goes into a finite sum of extended reals. -/
theorem decay_mul_sum {ι : Type} (s : Finset ι) (f : ι → EReal) : decay * ∑ j ∈ s, f j = ∑ j ∈ s, decay * f j := by
  classical
  induction s using Finset.induction_on with
  | empty => simp
  | insert a s ha ih =>
    rw [Finset.sum_insert ha, Finset.sum_insert ha, EReal.left_distrib_of_nonneg_of_ne_top decay_nonneg decay_ne_top, ih]

/-- The tile's sum at frame `i + 1` is the decayed sum at frame `i` and the share of the new frame. -/
theorem weight_sum_succ (n i : ℕ) (hi : i + 1 < n) (v : ℕ → EReal) :
    ∑ j ∈ Finset.range n, weight (i + 1) j * v j
      = decay * ∑ j ∈ Finset.range n, weight i j * v j + gain * v (i + 1) := by
  have hm : i + 1 ∈ Finset.range n := Finset.mem_range.mpr hi
  rw [← Finset.add_sum_erase _ _ hm, ← Finset.add_sum_erase (Finset.range n) (fun j => weight i j * v j) hm, weight_self,
    show weight i (i + 1) = 0 from if_neg (by omega), zero_mul, zero_add, decay_mul_sum, add_comm]
  congr 1
  refine Finset.sum_congr rfl fun j hj => ?_
  rw [weight_succ i j (Finset.mem_erase.mp hj).1, mul_assoc]

/-- The tile's sum at frame 0 is the share of that frame. -/
theorem weight_sum_zero (n : ℕ) (hn : 0 < n) (v : ℕ → EReal) :
    ∑ j ∈ Finset.range n, weight 0 j * v j = gain * v 0 := by
  rw [← weight_self 0]
  refine Finset.sum_eq_single_of_mem 0 (Finset.mem_range.mpr hn) fun j _ hj => ?_
  rw [show weight 0 j = 0 from if_neg (by omega), zero_mul]

/-- A tile of `n` frames from frame `b` on: the weighted sum of its frames and the share of what is carried into it is
    the smoothed energy at each of its frames. -/
theorem tile_energy (x : ℕ → EReal) (b n : ℕ) : ∀ i, i < n →
    ∑ j ∈ Finset.range n, weight i j * x (b + j) + carried i * before x b = energy x (b + i)
  | 0, h => by
    rw [weight_sum_zero n h fun j => x (b + j), show carried 0 = decay by simp [carried, decay], add_comm]
    exact (energy_step x b).symm
  | i + 1, h => by
    rw [weight_sum_succ n i h fun j => x (b + j), carried_succ, mul_assoc, add_right_comm,
      ← EReal.left_distrib_of_nonneg_of_ne_top decay_nonneg decay_ne_top, tile_energy x b n i (by omega)]
    rfl

/-- The same with the sum over the tile's frames as the kernel's product takes it, for tile `k` of 128 frames. -/
theorem tile_energy_fin (x : ℕ → EReal) (b : ℕ) (i : Fin 128) :
    ∑ j : Fin 128, weight i j * x (b + j) + carried i * before x b = energy x (b + i) := by
  rw [Fin.sum_univ_eq_sum_range (fun j => weight i j * x (b + j)) 128]
  exact tile_energy x b 128 i i.isLt

end Cert.Smooth

end
-- ==== Proof.Consts.lean ====
/- The float constants the two programs spell, as the real numbers they denote. -/
module

public import Idealize.ShloMosaic.PureOps.Ideal

@[expose] public section

noncomputable section

namespace Cert.Consts

open Idealize.ShloMosaic

/-- What both programs add to the smoothed energy. -/
def eps : ℝ := 8796093 / 2 ^ 43

/-- The power of the smoothed energy that a frame is divided by. -/
def alpha : ℝ := 16441672 / 2 ^ 24

/-- The root of 2 as both programs subtract it. -/
def root : ℝ := 11863283 / 2 ^ 23

/-- The word of 1e-6. -/
theorem ofBits_eps : Ideal.ofBits .f32 0x358637BD#32 = (eps : EReal) := by
  unfold eps; simp [Ideal.ofBits, Ideal.ieee, -EReal.coe_mul]; norm_num

/-- The word of 0.98. -/
theorem ofBits_alpha : Ideal.ofBits .f32 0x3F7AE148#32 = (alpha : EReal) := by
  unfold alpha; simp [Ideal.ofBits, Ideal.ieee, -EReal.coe_mul]; norm_num

/-- The word of -0.98. -/
theorem ofBits_neg_alpha : Ideal.ofBits .f32 0xBF7AE148#32 = ((-alpha : ℝ) : EReal) := by
  unfold alpha; simp [Ideal.ofBits, Ideal.ieee, -EReal.coe_mul, -EReal.coe_neg]; norm_num

/-- The word of the root of 2. -/
theorem ofBits_root : Ideal.ofBits .f32 0x3FB504F3#32 = (root : EReal) := by
  unfold root; simp [Ideal.ofBits, Ideal.ieee, -EReal.coe_mul]; norm_num

/-- The word of minus the root of 2. -/
theorem ofBits_neg_root : Ideal.ofBits .f32 0xBFB504F3#32 = ((-root : ℝ) : EReal) := by
  unfold root; simp [Ideal.ofBits, Ideal.ieee, -EReal.coe_mul, -EReal.coe_neg]; norm_num

/-- The word of 0 is 0. -/
theorem ofBits_zero : Ideal.ofBits .f32 0x00000000#32 = 0 := by
  simp [Ideal.ofBits, Ideal.ieee]

/-- The word of 1 is 1. -/
theorem ofBits_one : Ideal.ofBits .f32 0x3F800000#32 = ((1 : ℝ) : EReal) := by
  simp [Ideal.ofBits, Ideal.ieee, -EReal.coe_mul, -EReal.coe_one]; norm_num

/-- The word of 2 is 2. -/
theorem ofBits_two : Ideal.ofBits .f32 0x40000000#32 = ((2 : ℝ) : EReal) := by
  simp [Ideal.ofBits, Ideal.ieee, -EReal.coe_mul]; norm_num

/-- The word of 1/2 is 1/2. -/
theorem ofBits_half : Ideal.ofBits .f32 0x3F000000#32 = ((1 / 2 : ℝ) : EReal) := by
  simp [Ideal.ofBits, Ideal.ieee, -EReal.coe_mul]; norm_num

/-- The word of 40 is 40. -/
theorem ofBits_forty : Ideal.ofBits .f32 0x42200000#32 = ((40 : ℝ) : EReal) := by
  simp [Ideal.ofBits, Ideal.ieee, -EReal.coe_mul]; norm_num

/-- The word of 39 is 39. -/
theorem ofBits_thirtyNine : Ideal.ofBits .f32 0x421C0000#32 = ((39 : ℝ) : EReal) := by
  simp [Ideal.ofBits, Ideal.ieee, -EReal.coe_mul]; norm_num

/-- The constant added to the energy is positive. -/
theorem eps_pos : 0 < eps := by unfold eps; norm_num

/-- The exponent of the gain is positive. -/
theorem alpha_pos : 0 < alpha := by unfold alpha; norm_num

end Cert.Consts

end
-- ==== Proof.GainEq.lean ====
/- The gain control of one frame, over the extended reals: the kernel's form of it (a power of two of a logarithm, a
   reciprocal root) and the reference's (a quotient by a power, a power to one half) are equal. No program is mentioned
   here. -/
module

public import proofs.«01_k».proof.Proof.Consts

@[expose] public section

noncomputable section

namespace Cert.GainEq

open Idealize.ShloMosaic Cert.Consts

/-- The reference's value of a frame `v` with smoothed energy `e`. -/
def value (v e : EReal) : EReal :=
  Ideal.pow (Ideal.div v (Ideal.pow (e + (eps : EReal)) (alpha : EReal)) + ((2 : ℝ) : EReal)) ((1 / 2 : ℝ) : EReal)
    - (root : EReal)

/-- The kernel's value under the root. -/
def under (v e : EReal) : EReal :=
  v * Ideal.exp2 (Ideal.log (e + (eps : EReal)) * (((Real.log 2)⁻¹ : ℝ) : EReal) * ((-alpha : ℝ) : EReal)) + ((2 : ℝ) : EReal)

/-- The kernel's value of a frame `v` with smoothed energy `e`. -/
def kernelValue (v e : EReal) : EReal := Ideal.rsqrt (under v e) * under v e + ((-root : ℝ) : EReal)

/-- A power of two of a logarithm to base two is the power itself. -/
theorem exp2_log {r : ℝ} (hr : 0 < r) :
    Ideal.exp2 (Ideal.log (r : EReal) * (((Real.log 2)⁻¹ : ℝ) : EReal) * ((-alpha : ℝ) : EReal))
      = (((r ^ alpha : ℝ)⁻¹ : ℝ) : EReal) := by
  have h2 : Real.log 2 ≠ 0 := (Real.log_pos (by norm_num)).ne'
  have hl : Ideal.log (r : EReal) = (Real.log r : EReal) := by
    show (if r ≤ 0 then (⊥ : EReal) else _) = _
    rw [if_neg (not_le.mpr hr)]
  rw [hl, ← EReal.coe_mul, ← EReal.coe_mul]
  show ((Real.rpow 2 _ : ℝ) : EReal) = _
  congr 1
  show (2 : ℝ) ^ (_ : ℝ) = _
  rw [← Real.rpow_neg hr.le, Real.rpow_def_of_pos (by norm_num), Real.rpow_def_of_pos hr]
  congr 1
  field_simp

/-- A value times its reciprocal root is its power to one half, above zero. -/
theorem rsqrt_mul {r : ℝ} (hr : 0 < r) : Ideal.rsqrt (r : EReal) * (r : EReal) = Ideal.pow (r : EReal) ((1 / 2 : ℝ) : EReal) := by
  have h : Ideal.rsqrt (r : EReal) = (((Real.sqrt r)⁻¹ : ℝ) : EReal) := by
    show (if r < 0 then (⊥ : EReal) else if r = 0 then ⊤ else _) = _
    rw [if_neg (not_lt.mpr hr.le), if_neg hr.ne']
  rw [h, ← EReal.coe_mul]
  show _ = ((Real.rpow r (1 / 2) : ℝ) : EReal)
  congr 1
  show _ = r ^ (1 / 2 : ℝ)
  rw [← Real.sqrt_eq_rpow]
  have hs : Real.sqrt r ≠ 0 := (Real.sqrt_pos.mpr hr).ne'
  field_simp
  exact (Real.sq_sqrt hr.le).symm

/-- The kernel's value under the root is the reference's, and a positive real: for a frame and an energy that are not
    negative, the energy infinite where the frame is. -/
theorem under_eq {v e : EReal} (hv : 0 ≤ v) (he : 0 ≤ e) (hve : v = ⊤ → e = ⊤) :
    ∃ r : ℝ, 0 < r ∧ under v e = (r : EReal)
      ∧ Ideal.div v (Ideal.pow (e + (eps : EReal)) (alpha : EReal)) + ((2 : ℝ) : EReal) = (r : EReal) := by
  induction e using EReal.rec with
  | bot => exact absurd he (by simp)
  | top =>
    refine ⟨2, by norm_num, ?_, ?_⟩
    · have hl : Ideal.log ((⊤ : EReal) + (eps : EReal)) = ⊤ := by rw [EReal.top_add_coe]; rfl
      rw [under, hl, EReal.top_mul_coe_of_pos (inv_pos.mpr (Real.log_pos (by norm_num))),
        EReal.top_mul_coe_of_neg (neg_lt_zero.mpr alpha_pos), show Ideal.exp2 ⊥ = 0 from rfl, mul_zero, zero_add]
    · have hp : Ideal.pow ((⊤ : EReal) + (eps : EReal)) (alpha : EReal) = ⊤ := by
        rw [EReal.top_add_coe]
        show (if (0 : EReal) < (alpha : EReal) then (⊤ : EReal) else _) = _
        rw [if_pos (EReal.coe_pos.mpr alpha_pos)]
      rw [hp, Ideal.div, if_neg EReal.top_ne_zero, EReal.inv_top, mul_zero, zero_add]
  | coe q =>
    have hq : 0 ≤ q := EReal.coe_nonneg.mp he
    induction v using EReal.rec with
    | bot => exact absurd hv (by simp)
    | top => exact absurd (hve rfl) (EReal.coe_ne_top q)
    | coe p =>
      have hp : 0 ≤ p := EReal.coe_nonneg.mp hv
      have hr : 0 < q + eps := add_pos_of_nonneg_of_pos hq eps_pos
      have hpow : 0 < (q + eps) ^ alpha := Real.rpow_pos_of_pos hr _
      refine ⟨p * ((q + eps) ^ alpha)⁻¹ + 2, by positivity, ?_, ?_⟩
      · rw [under, ← EReal.coe_add, exp2_log hr, ← EReal.coe_mul, ← EReal.coe_add]
      · have hpw : Ideal.pow ((q + eps : ℝ) : EReal) (alpha : EReal) = (((q + eps) ^ alpha : ℝ) : EReal) := rfl
        rw [← EReal.coe_add, hpw, Ideal.div, if_neg (EReal.coe_ne_zero.mpr hpow.ne'), ← EReal.coe_inv, ← EReal.coe_mul,
          ← EReal.coe_add]

/-- The kernel's value of a frame is the reference's. -/
theorem value_eq {v e : EReal} (hv : 0 ≤ v) (he : 0 ≤ e) (hve : v = ⊤ → e = ⊤) :
    kernelValue v e = value v e := by
  obtain ⟨r, hr, h₁, h₂⟩ := under_eq hv he hve
  rw [kernelValue, value, h₁, h₂, rsqrt_mul hr, EReal.coe_neg, sub_eq_add_neg]

end Cert.GainEq

end
-- ==== Proof.Channel.lean ====
/- The result both programs are to hold, as a function of the frames: of every channel the smoothed energy, and at every
   frame its gain-controlled value. -/
module

public import proofs.«01_k».proof.Proof.Smooth
public import proofs.«01_k».proof.Proof.GainEq
public import Idealize.ShloMosaic.Lib.Pointwise

@[expose] public section

noncomputable section

namespace Cert.Channel

open Idealize.ShloMosaic Cert.Smooth Cert.GainEq

/-- The shape of the frames: 16 samples of 16384 frames of 128 bins. -/
abbrev Frames : Shape := ⟨3, ![16, 16384, 128]⟩

/-- Bin `f` of sample `b` as a sequence of frames, 0 from the last frame on. -/
def channel (X : FVec Ideal Frames .f32) (b : Fin 16) (f : Fin 128) (t : ℕ) : EReal :=
  if h : t < 16384 then X (ix3 b ⟨t, h⟩ f) else 0

/-- A frame of a channel, within the frames there are, is the array's element. -/
theorem channel_apply (X : FVec Ideal Frames .f32) (b : Fin 16) (t : Fin 16384) (f : Fin 128) :
    channel X b f t = X (ix3 b t f) := dif_pos t.isLt

/-- The result: at every frame of every channel its value under the smoothed energy there. -/
def result (X : FVec Ideal Frames .f32) : FVec Ideal Frames .f32 :=
  fun i => value (X i) (energy (channel X (i 0) (i 2)) (i 1).val)

/-- The result at an element. -/
theorem result_apply (X : FVec Ideal Frames .f32) (b : Fin 16) (t : Fin 16384) (f : Fin 128) :
    result X (ix3 b t f) = value (X (ix3 b t f)) (energy (channel X b f) t) := rfl

/-- A channel of frames that are nowhere negative is nowhere negative. -/
theorem channel_nonneg {X : FVec Ideal Frames .f32} (hX : ∀ i, (0 : EReal) ≤ X i) (b : Fin 16) (f : Fin 128) (t : ℕ) :
    0 ≤ channel X b f t := by
  unfold channel
  split
  · exact hX _
  · exact le_rfl

/-- The kernel's value of a frame, from its channel's smoothed energy, is the result, for frames nowhere negative. -/
theorem kernel_value {X : FVec Ideal Frames .f32} (hX : ∀ i, (0 : EReal) ≤ X i) (b : Fin 16) (t : Fin 16384) (f : Fin 128) :
    kernelValue (channel X b f t) (energy (channel X b f) t) = result X (ix3 b t f) := by
  have hc := channel_nonneg hX b f
  rw [result_apply, ← channel_apply X b t f]
  exact value_eq (hc t) (energy_nonneg hc t) (energy_top hc t)

end Cert.Channel

end
-- ==== Proof.Tile.lean ====
/- A tile of the kernel at the extended reals, read at its elements: with the decay table holding the weights of the
   smoothing, the row carried into every tile is the smoothed energy of the frame before it, and what the tile stores is
   the gain-controlled value of each of its frames. -/
module

public import proofs.«01_k».proof.Proof.Body
public import proofs.«01_k».proof.Proof.Channel

@[expose] public section

set_option maxRecDepth 16384

noncomputable section

namespace Cert.Tile

open Idealize.ShloMosaic Idealize.ShloMosaic.TcCoe Idealize.ShloMosaic.Tactic
open Cert.KernelIdeal Cert.KernelIdeal.Gen Cert.KernelIdeal.Body Cert.Smooth Cert.GainEq Cert.Consts

/-- The named constant of a tile's decay is the share of the carried value at the tile's last frame. -/
theorem named_tile_decay : Named.named (F := Ideal) (φ := .f32) κ "tile_decay" 0x3D204E6E#32 = carried 127 := by
  show ((_ : ℝ) : EReal) = (((39 / 40) ^ (127 + 1) : ℝ) : EReal)
  congr 1
  norm_num

/-- The named constant of the change of logarithm is the reciprocal of the logarithm of 2. -/
theorem named_log2e : Named.named (F := Ideal) (φ := .f32) κ "log2e" 0x3FB8AA3B#32 = (((Real.log 2)⁻¹ : ℝ) : EReal) :=
  IdealRules.named_const.ideal_named_scalar _ _ _ _ rfl

variable (L : FVec Ideal S128x128 .f32) (hL : ∀ i j : Fin 128, L (ix2 i j) = weight i j)

include hL

/-- The tile's product at an element: the weighted sum of the tile's frames. -/
theorem tileProd_apply (v : Vec Ideal S1x128x128 .f32) (i f : Fin 128) :
    tileProd L v (ix2 i f) = ∑ j : Fin 128, weight i j * (v (ix3 0 j f) : EReal) := by
  unfold tileProd
  pointwise [hL]

/-- The decay of the carried row at an element. -/
theorem decayCol_apply (i : Fin 128) : decayCol L (ix2 i 0) = carried i := by
  unfold decayCol
  pointwise [hL, ofBits_thirtyNine]
  rw [weight, if_pos (Nat.zero_le _), carried, ← EReal.coe_mul, Nat.sub_zero, pow_succ]
  congr 1; ring

/-- The smoothed energy over a tile that starts at frame `b`. -/
theorem tileEnergy_apply (x : ℕ → EReal) (b : ℕ) (r : FVec Ideal S1x128 .f32) (v : Vec Ideal S1x128x128 .f32) (i f : Fin 128)
    (hv : ∀ j : Fin 128, (v (ix3 0 j f) : EReal) = x (b + j)) (hr : (r (ix2 0 f) : EReal) = before x b) :
    tileEnergy L (decayCol L) r v (ix2 i f) = energy x (b + i) := by
  unfold tileEnergy
  pointwise [tileProd_apply L hL, decayCol_apply L hL, hr, hv]
  exact tile_energy_fin x b i

/-- The row carried on from a tile that starts at frame `b`: what is carried into frame `b + 128`. -/
theorem nextCarry_apply (x : ℕ → EReal) (b : ℕ) (r : FVec Ideal S1x128 .f32) (v : Vec Ideal S1x128x128 .f32) (f : Fin 128)
    (hv : ∀ j : Fin 128, (v (ix3 0 j f) : EReal) = x (b + j)) (hr : (r (ix2 0 f) : EReal) = before x b) :
    nextCarry L r v (ix2 0 f) = before x (b + 128) := by
  unfold nextCarry
  pointwise [tileProd_apply L hL, named_tile_decay, hr, hv]
  exact tile_energy_fin x b 127

/-- What a tile that starts at frame `b` stores: at each of its frames the kernel's gain-controlled value. -/
theorem tileOut_apply (x : ℕ → EReal) (b : ℕ) (r : FVec Ideal S1x128 .f32) (v : Vec Ideal S1x128x128 .f32) (i f : Fin 128)
    (hv : ∀ j : Fin 128, (v (ix3 0 j f) : EReal) = x (b + j)) (hr : (r (ix2 0 f) : EReal) = before x b) :
    tileOut L (decayCol L) r v (ix3 0 i f)
      = kernelValue (x (b + i)) (energy x (b + i)) := by
  unfold tileOut tileGain
  pointwise [tileEnergy_apply L hL x b r v i f hv hr, named_log2e, hv, ofBits_eps, ofBits_neg_alpha, ofBits_two, ofBits_neg_root]
  rfl

/-- The row carried into tile `n` of a block that starts at frame `b`. -/
theorem carryAt_apply (x : ℕ → EReal) (b : ℕ) (ld : Fin 64 → Vec Ideal S1x128x128 .f32) (r0 : FVec Ideal S1x128 .f32) (f : Fin 128)
    (hld : ∀ (n : Fin 64) (j : Fin 128), (ld n (ix3 0 j f) : EReal) = x (b + 128 * n + j))
    (hr : (r0 (ix2 0 f) : EReal) = before x b) : ∀ (n : ℕ) (hn : n ≤ 64),
    (carryAt L ld r0 n hn (ix2 0 f) : EReal) = before x (b + 128 * n)
  | 0, _ => hr
  | n + 1, hn => nextCarry_apply L hL x (b + 128 * n) _ _ f (hld ⟨n, hn⟩)
      (carryAt_apply x b ld r0 f hld hr n (Nat.le_of_succ_le hn))

end Cert.Tile

end
-- ==== Proof.Block.lean ====
/- A block of the kernel at the extended reals: 64 tiles of 128 frames, read at its elements. -/
module

public import proofs.«01_k».proof.Proof.Tile
public import Idealize.ShloMosaic.Lib.WholeRead
public import Idealize.ShloMosaic.Lib.VecWindow

@[expose] public section

set_option maxRecDepth 16384

noncomputable section

namespace Cert.Block

open Idealize.ShloMosaic Idealize.ShloMosaic.TcCoe Idealize.ShloMosaic.Tactic
open Cert.KernelIdeal Cert.KernelIdeal.Gen Cert.KernelIdeal.Body Cert.Smooth Cert.GainEq Cert.Tile

section Loads

variable (arg2 : Memref sig .tc .vmem S128x128 .f32) (harg2 : arg2.IsWhole)
  (arg3 : Memref sig .tc .vmem S1x8192x128 .f32) (harg3 : arg3.IsWhole)
  (arg5 : Memref sig .tc .vmem S1x128 .f32) (harg5 : arg5.IsWhole)
  (x0 : Vec Ideal S128x128 .f32) (x1 : Vec Ideal S1x8192x128 .f32) (xs0 : Vec Ideal S1x128 .f32)

/-- The loaded table is the table. -/
theorem ldTable_apply (i j : Fin 128) : ldTable arg2 harg2 x0 (ix2 i j) = x0 (ix2 i j) := by
  unfold ldTable
  pointwise
  rw [harg2.readAt_unread]
  pointwise

/-- Tile `n` of the block is its frames from `128 n` on. -/
theorem ldTile_apply (n : Fin 64) (j f : Fin 128) :
    ldTile arg3 harg3 x1 n (ix3 0 j f) = x1 (ix3 0 ⟨128 * n.val + j.val, by omega⟩ f) := by
  unfold ldTile
  rw [harg3.readAt_unread]
  refine congrArg x1 (funext fun a => Fin.ext ?_)
  fin_cases a
  · rfl
  · show 128 * n.val + 1 * j.val = 128 * n.val + j.val
    omega
  · show 0 + 1 * f.val = f.val
    omega

/-- The carried row at a batch's first block is the block's first frame. -/
theorem ldInit_apply (f : Fin 128) : ldInit arg3 harg3 arg5 x1 (ix2 0 f) = x1 (ix3 0 0 f) := by
  unfold ldInit initStore
  rw [View.readCov_full]
  pointwise
  rw [harg3.readAt_unread]
  pointwise

/-- The carried row at any other block is what the block before left. -/
theorem ldCarry_apply (f : Fin 128) : ldCarry arg5 harg5 xs0 (ix2 0 f) = xs0 (ix2 0 f) := by
  unfold ldCarry
  rw [harg5.readAt_unread]
  pointwise

end Loads

/-- The stores of a block, read at frame `t`: the store of the tile that holds the frame. -/
theorem read_tileStores (v : View sig .tc .vmem S1x8192x128 .f32) (g : v.ty.Contents (Elt Ideal)) (L : FVec Ideal S128x128 .f32)
    (ld : Fin 64 → Vec Ideal S1x128x128 .f32) (r0 : FVec Ideal S1x128 .f32) (t : Fin 8192) (f : Fin 128) :
    v.read (Elt Ideal) (v.writes (Elt Ideal) g (tileStores L ld r0)) (ix3 0 t f)
      = tileOut L (decayCol L) (carryAt L ld r0 (t.val / 128) (by omega)) (ld ⟨t.val / 128, by omega⟩)
          (ix3 0 ⟨t.val % 128, Nat.mod_lt _ (by norm_num)⟩ f) := by
  unfold tileStores
  refine View.read_tilePieces v g _ _ _ _ 64 _ (ix3 0 t f) ⟨t.val / 128, by omega⟩ (by show t.val / 128 < 64; omega)
    (ix3 0 ⟨t.val % 128, Nat.mod_lt _ (by norm_num)⟩ f) (fun a => ?_) 1 fun n' hn => ?_
  · fin_cases a
    · rfl
    · show t.val = 128 * (t.val / 128) + t.val % 128
      omega
    · show f.val = 0 + f.val
      omega
  · show t.val < 128 * n'.val ∨ 128 * n'.val + 128 ≤ t.val
    have : n'.val ≠ t.val / 128 := fun h => hn (Fin.ext h)
    omega

/-- A block whose frames are `x` from frame `b` on, with the weights in the table and the smoothed energy of the frame
    before it carried in, stores at each of its frames the kernel's gain-controlled value. -/
theorem read_block (v : View sig .tc .vmem S1x8192x128 .f32) (g : v.ty.Contents (Elt Ideal)) (L : FVec Ideal S128x128 .f32)
    (hL : ∀ i j : Fin 128, L (ix2 i j) = weight i j) (ld : Fin 64 → Vec Ideal S1x128x128 .f32) (r0 : FVec Ideal S1x128 .f32)
    (x : ℕ → EReal) (b : ℕ) (t : Fin 8192) (f : Fin 128)
    (hld : ∀ (n : Fin 64) (j : Fin 128), (ld n (ix3 0 j f) : EReal) = x (b + 128 * n + j)) (hr : (r0 (ix2 0 f) : EReal) = before x b) :
    v.read (Elt Ideal) (v.writes (Elt Ideal) g (tileStores L ld r0)) (ix3 0 t f) = kernelValue (x (b + t)) (energy x (b + t)) := by
  rw [read_tileStores]
  have h := tileOut_apply L hL x (b + 128 * (t.val / 128)) _ _ ⟨t.val % 128, Nat.mod_lt _ (by norm_num)⟩ f
    (hld ⟨t.val / 128, by omega⟩) (carryAt_apply L hL x b ld r0 f hld hr (t.val / 128) (by omega))
  have e : b + 128 * (t.val / 128) + t.val % 128 = b + t.val := by omega
  rw [← e]
  exact h

section Cases

variable (c : Dev nD) (i : grid0.Coords) (arg2 : Memref sig .tc .vmem S128x128 .f32) (harg2 : arg2.IsWhole)
  (arg3 : Memref sig .tc .vmem S1x8192x128 .f32) (harg3 : arg3.IsWhole)
  (arg4 : Memref sig .tc .vmem S1x8192x128 .f32) (harg4 : arg4.IsWhole)
  (arg5 : Memref sig .tc .vmem S1x128 .f32) (harg5 : arg5.IsWhole)
  (x0 : Vec Ideal S128x128 .f32) (x1 : Vec Ideal S1x8192x128 .f32) (xs0 : Vec Ideal S1x128 .f32)
  (hL : ∀ i j : Fin 128, (x0 (ix2 i j) : EReal) = weight i j) (x : ℕ → EReal) (b : ℕ) (f : Fin 128)
  (hx : ∀ t : Fin 8192, (x1 (ix3 0 t f) : EReal) = x (b + t))

include hx in
/-- The loaded tiles are the frames of the block. -/
theorem ldTile_frames (n : Fin 64) (j : Fin 128) : (ldTile arg3 harg3 x1 n (ix3 0 j f) : EReal) = x (b + 128 * n + j) := by
  rw [ldTile_apply, hx, Nat.add_assoc]

include hL in
theorem ldTable_weight (i j : Fin 128) : (ldTable arg2 harg2 x0 (ix2 i j) : EReal) = weight i j := by
  rw [ldTable_apply]; exact hL i j

include hx in
theorem ldInit_before (hb : b = 0) : (ldInit arg3 harg3 arg5 x1 (ix2 0 f) : EReal) = before x b := by
  rw [ldInit_apply, hx 0, hb]; rfl

/-- The carried row as a later half loads it is the smoothed energy of the frame before the half. -/
theorem ldCarry_before (hr : (xs0 (ix2 0 f) : EReal) = before x b) : (ldCarry arg5 harg5 xs0 (ix2 0 f) : EReal) = before x b := by
  rw [ldCarry_apply]; exact hr

include hL hx

/-- What a batch's first block stores. -/
theorem out_A (hc0 : cond0_0 i) (hb : b = 0) (t : Fin 8192) :
    (out0_A_2 c i arg2 harg2 arg3 harg3 arg4 harg4 arg5 harg5 hc0 x0 x1 (ix3 0 t f) : EReal)
      = kernelValue (x (b + t)) (energy x (b + t)) := by
  unfold out0_A_2
  rw [storesA]
  exact read_block _ _ _ (ldTable_weight arg2 harg2 x0 hL) _ _ x b t f (ldTile_frames arg3 harg3 x1 x b f hx)
    (ldInit_before arg3 harg3 arg5 x1 x b f hx hb)

/-- What any other block stores. -/
theorem out_B (hc0 : ¬cond0_0 i) (hr : (xs0 (ix2 0 f) : EReal) = before x b) (t : Fin 8192) :
    (out0_B_2 c i arg2 harg2 arg3 harg3 arg4 harg4 arg5 harg5 hc0 x0 x1 xs0 (ix3 0 t f) : EReal)
      = kernelValue (x (b + t)) (energy x (b + t)) := by
  unfold out0_B_2
  rw [storesB]
  exact read_block _ _ _ (ldTable_weight arg2 harg2 x0 hL) _ _ x b t f (ldTile_frames arg3 harg3 x1 x b f hx)
    (ldCarry_before arg5 harg5 xs0 x b f hr)

/-- What a batch's first block carries on: the smoothed energy at its last frame. -/
theorem sout_A (hc0 : cond0_0 i) (hb : b = 0) :
    (sout0_A_0 c i arg2 harg2 arg3 harg3 arg4 harg4 arg5 harg5 hc0 x0 x1 (ix2 0 f) : EReal) = before x (b + 8192) := by
  unfold sout0_A_0
  rw [endA, endStore, View.read_writes_full]
  pointwise
  exact carryAt_apply _ (ldTable_weight arg2 harg2 x0 hL) x b _ _ f (ldTile_frames arg3 harg3 x1 x b f hx)
    (ldInit_before arg3 harg3 arg5 x1 x b f hx hb) 64 (Nat.le_refl 64)

end Cases

end Cert.Block

end
-- ==== Proof.Table.lean ====
/- The decay table the kernel's host part computes, and the blocks the kernel stages, read at their elements. -/
module

public import proofs.«01_k».proof.Proof.Gen.KernelIdeal.Value
public import proofs.«01_k».proof.Proof.Channel
public import Idealize.ShloMosaic.Lib.DynamicIndex
public import Idealize.ShloMosaic.Lib.Claim

@[expose] public section

set_option maxRecDepth 16384

noncomputable section

namespace Cert.Table

open Idealize.ShloMosaic Idealize.ShloMosaic.TcCoe Idealize.ShloMosaic.Tactic
open Cert.KernelIdeal Cert.KernelIdeal.Gen Cert.Smooth Cert.Channel

variable (m : (ℓ : Loc nD τ sig) → Buf (Elt Ideal) ℓ) (c : Dev nD)

/-- The difference of two frames of a tile, as a word, is their difference. -/
theorem toInt_diff (i j : Fin 128) : (IntOp.subi (BitVec.ofNat 32 i) (BitVec.ofNat 32 j)).toInt = (i.val : Int) - j.val := by
  show (BitVec.ofNat 32 i - BitVec.ofNat 32 j).toInt = _
  rw [BitVec.toInt_sub, toInt_ofNat_of_lt (by omega), toInt_ofNat_of_lt (by omega)]
  exact Int.bmod_eq_of_le (by omega) (by omega)

/-- A select on "the word is not negative" is a choice on its sign. -/
theorem select_nonneg (d : BitVec 32) (a b : EReal) :
    Scalar.select (IntOp.cmpi .sge d 0#32) a b = if 0 ≤ d.toInt then a else b := by
  show (if BitVec.ofBool ((0#32).sle d) = 1 then a else b) = _
  by_cases h : 0 ≤ d.toInt <;> simp [BitVec.sle, h]

/-- The reciprocal of 40, as both host parts compute it. -/
theorem div_forty : Ideal.div 1 ((40 : ℝ) : EReal) = gain := by
  rw [Ideal.div, if_neg (by norm_num), one_mul, ← EReal.coe_inv, gain]
  norm_num

/-- The table holds the weights of the smoothing. -/
theorem table_apply (i j : Fin 128) : ((V m c main_v15 : FVec Ideal S128x128 .f32) (ix2 i j) : EReal) = weight i j := by
  show StableHlo.after (hostOps0 ++ hostOps0_1) _ _ _ = _
  rw [StableHlo.after_append]
  after_results
  simp only [StableHlo.TRef.toBuf, StableHlo.TRef.ofBuf, id, cast_eq, eqRec_eq_cast]
  pointwise [Consts.ofBits_forty]
  rw [select_nonneg, toInt_diff, weight]
  by_cases h : j.val ≤ i.val
  · rw [if_pos (by omega), if_pos h, div_forty, show (1 : EReal) - gain = ((39 / 40 : ℝ) : EReal) by
      rw [gain, ← EReal.coe_one, ← EReal.coe_sub]; norm_num]
    have hs : FloatOps.sitofp (F := Ideal) .f32 (IntOp.subi (BitVec.ofNat 32 i) (BitVec.ofNat 32 j)) = (((i.val - j.val : ℕ) : ℝ) : EReal) := by
      show (((IntOp.subi (BitVec.ofNat 32 i) (BitVec.ofNat 32 j)).toInt : ℝ) : EReal) = _
      rw [toInt_diff, Nat.cast_sub h]
      push_cast
      rfl
    rw [hs]
    show gain * ((Real.rpow (39 / 40) ((i.val - j.val : ℕ) : ℝ) : ℝ) : EReal) = _
    rw [show Real.rpow (39 / 40) ((i.val - j.val : ℕ) : ℝ) = (39 / 40 : ℝ) ^ (i.val - j.val) from Real.rpow_natCast _ _, gain, ← EReal.coe_mul]
  · rw [if_neg (by omega), if_neg h]

/-- The index map of the table, decided over the grid: the table is staged whole. -/
theorem index_table : ∀ t : Fin cfg0.N, win0_0.index t (0 : Fin 2) = 0 ∧ win0_0.index t (1 : Fin 2) = 0 :=
  (by decide +kernel : ∀ t : Fin grid0.N, _)

/-- Point `t` stages half `t % 2` of sample `t / 2`. -/
theorem index_frames : ∀ t : Fin cfg0.N,
    win0_1.index t (0 : Fin 3) = t.val / 2 ∧ win0_1.index t (1 : Fin 3) = t.val % 2 ∧ win0_1.index t (2 : Fin 3) = 0 :=
  (by decide +kernel : ∀ t : Fin grid0.N, _)

/-- The table as point `t` stages it holds the weights. -/
theorem iblk_table (t : Fin cfg0.N) (i j : Fin 128) : ((iblk m c 0 t : Vec Ideal S128x128 .f32) (ix2 i j) : EReal) = weight i j := by
  obtain ⟨e0, e1⟩ := index_table t
  rw [← table_apply m c i j]
  show V m c main_v15 (((cfg0.win 0).blk t).view.emb (ix2 i j)) = _
  refine congrArg (V m c main_v15) (funext fun a => Fin.ext ?_)
  fin_cases a
  · show win0_0.index t (0 : Fin 2) * 128 + 1 * i.val = i.val
    rw [e0]; omega
  · show win0_0.index t (1 : Fin 2) * 128 + 1 * j.val = j.val
    rw [e1]; omega

/-- The frames the kernel is given. -/
def frames : FVec Ideal S16x16384x128 .f32 := m ((c.tc : Thread nD τ).loc main_arg0)

/-- The frames as point `t` stages them: those of sample `t / 2` from frame `8192 (t % 2)` on. -/
theorem iblk_frames (t : Fin cfg0.N) (b : Fin 16) (hb : b.val = t.val / 2) (s : Fin 8192) (f : Fin 128) :
    ((iblk m c 1 t : Vec Ideal S1x8192x128 .f32) (ix3 0 s f) : EReal) = channel (frames m c) b f (8192 * (t.val % 2) + s) := by
  obtain ⟨e0, e1, e2⟩ := index_frames t
  have hs : 8192 * (t.val % 2) + s.val < 16384 := by omega
  rw [show 8192 * (t.val % 2) + s.val = (⟨8192 * (t.val % 2) + s.val, hs⟩ : Fin 16384).val from rfl, channel_apply]
  show V m c main_arg0 (((cfg0.win 1).blk t).view.emb (ix3 0 s f)) = _
  rw [V_main_arg0]
  refine congrArg (frames m c) (funext fun a => Fin.ext ?_)
  fin_cases a
  · show win0_1.index t (0 : Fin 3) * 1 + 1 * 0 = b.val
    rw [e0]; omega
  · show win0_1.index t (1 : Fin 3) * 8192 + 1 * s.val = 8192 * (t.val % 2) + s.val
    rw [e1]; omega
  · show win0_1.index t (2 : Fin 3) * 128 + 1 * f.val = f.val
    rw [e2]; omega

end Cert.Table

end
-- ==== Proof.Array.lean ====
/- The array the kernel ends with: the blocks of every sample, one after the other, are its result. -/
module

public import proofs.«01_k».proof.Proof.Block
public import proofs.«01_k».proof.Proof.Table

@[expose] public section

set_option maxRecDepth 16384

noncomputable section

namespace Cert.Array

open Idealize.ShloMosaic Idealize.ShloMosaic.TcCoe Idealize.ShloMosaic.Tactic
open Cert.KernelIdeal Cert.KernelIdeal.Gen Cert.KernelIdeal.Value Cert.Smooth Cert.GainEq Cert.Channel Cert.Table

variable (m : (ℓ : Loc nD τ sig) → Buf (Elt Ideal) ℓ) (c : Dev nD)

/-- The row the first half of sample `b` carries on: the smoothed energy at its last frame. -/
theorem carried_half (t : Fin cfg0.N) (h0 : t.val % 2 = 0) (b : Fin 16) (hb : b.val = t.val / 2) (f : Fin 128) :
    ((outsAt0 m c t.val t.isLt).2 (ix2 0 f) : EReal) = before (channel (frames m c) b f) 8192 := by
  rw [outsAt0_A m c t h0]
  dsimp only
  exact (Block.sout_A c (grid0.coords t) (ms0_0 t) (hs0_0 t) (ms0_1 t) (hs0_1 t) (ms0_2 t) (hs0_2 t) scM0_0 (Memref.isWhole_whole _) _ _ (iblk_table m c t) (channel (frames m c) b f) (8192 * (t.val % 2)) f
    (fun s => iblk_frames m c t b hb s f) _ (by omega)).trans (by rw [h0])

/-- What point `t` writes back: at each frame of its half of sample `b` the kernel's gain-controlled value. -/
theorem point_value (t : Fin cfg0.N) (b : Fin 16) (hb : b.val = t.val / 2) (s : Fin 8192) (f : Fin 128) :
    ((outsAt0 m c t.val t.isLt).1 (ix3 0 s f) : EReal)
      = kernelValue (channel (frames m c) b f (8192 * (t.val % 2) + s)) (energy (channel (frames m c) b f) (8192 * (t.val % 2) + s)) := by
  by_cases h0 : t.val % 2 = 0
  · rw [outsAt0_A m c t h0]
    dsimp only
    exact Block.out_A c (grid0.coords t) (ms0_0 t) (hs0_0 t) (ms0_1 t) (hs0_1 t) (ms0_2 t) (hs0_2 t) scM0_0 (Memref.isWhole_whole _) _ _ (iblk_table m c t) (channel (frames m c) b f) (8192 * (t.val % 2)) f
      (fun s => iblk_frames m c t b hb s f) _ (by omega) s
  · rw [outsAt0_B m c t h0]
    dsimp only
    refine Block.out_B c (grid0.coords t) (ms0_0 t) (hs0_0 t) (ms0_1 t) (hs0_1 t) (ms0_2 t) (hs0_2 t) scM0_0 (Memref.isWhole_whole _) _ _ _ (iblk_table m c t) (channel (frames m c) b f) (8192 * (t.val % 2)) f
      (fun s => iblk_frames m c t b hb s f) _ ?_ s
    have h1 : t.val % 2 = 1 := by omega
    rw [h1]
    exact carried_half m c ⟨t.val - 1, by omega⟩ (by show (t.val - 1) % 2 = 0; omega) b (by show b.val = (t.val - 1) / 2; omega) f

/-- The array the kernel ends with is the result of its frames, for frames nowhere negative. -/
theorem array_eq (hX : ∀ i, (0 : EReal) ≤ frames m c i) : G2 m c = result (frames m c) := by
  funext i
  obtain ⟨b, t, f, rfl⟩ : ∃ (b : Fin 16) (t : Fin 16384) (f : Fin 128), i = ix3 b t f := ⟨i 0, i 1, i 2, eq_ix3 i⟩
  have hp : pt2Of (ix3 b t f) = 2 * b.val + t.val / 8192 := by
    show 2 * (b.val / 1 - 0) + 1 * (t.val / 8192 - 0) + 1 * (f.val / 128 - 0) = _
    omega
  have hN : pt2Of (ix3 b t f) < cfg0.N := lt_of_lt_of_eq (by rw [hp]; omega) N_0.symm
  have hl : loc2Of (ix3 b t f) = ix3 0 ⟨t.val % 8192, Nat.mod_lt _ (by norm_num)⟩ f := by
    funext a
    apply Fin.ext
    fin_cases a
    · exact Nat.mod_one b.val
    · rfl
    · exact Nat.mod_eq_of_lt f.isLt
  unfold G2
  rw [dif_pos hN, ← outsAt0_sweep m c _ hN, hl]
  refine (point_value m c ⟨pt2Of (ix3 b t f), hN⟩ b (by show b.val = pt2Of (ix3 b t f) / 2; rw [hp]; omega) _ f).trans ?_
  have e : 8192 * (pt2Of (ix3 b t f) % 2) + t.val % 8192 = t.val := by rw [hp]; omega
  show kernelValue (channel (frames m c) b f (8192 * (pt2Of (ix3 b t f) % 2) + t.val % 8192)) _ = _
  rw [← kernel_value hX]
  show kernelValue _ (energy _ (8192 * (pt2Of (ix3 b t f) % 2) + t.val % 8192)) = _
  rw [e]

end Cert.Array

end
-- ==== Proof.RefLoop.lean ====
/- The reference's loop over the frames: what its carried buffers hold after any number of trips. -/
module

public import proofs.«01_k».proof.Proof.Channel
public import proofs.«01_k».proof.Proof.Gen.ReferenceIdeal.Run
public import Idealize.ShloMosaic.Lib.DynamicIndex
public import Idealize.ShloMosaic.Lib.Tactic.CleanTypes
public import Idealize.ShloMosaic.Lib.Pipeline.Value

@[expose] public section

set_option maxRecDepth 16384

noncomputable section

namespace Cert.RefLoop

open Idealize.ShloMosaic Idealize.ShloMosaic.TcCoe Idealize.ShloMosaic.Tactic Idealize.ShloMosaic.StableHlo
open Cert.ReferenceIdeal Cert.ReferenceIdeal.Gen Cert.ReferenceIdeal.Value Cert.Smooth Cert.Channel

variable (m : (ℓ : Loc nD τ sig) → Buf (Elt Ideal) ℓ) (c : Dev nD)

/-- The frames the reference is given. -/
def frames : FVec Ideal S16x16384x128 .f32 := m ((c.tc : Thread nD τ).loc main_arg0)

/-- The argument as the reference starts with it is the frames. -/
theorem frames_eq : launchContents m c (Proc.devRef .tc main_arg0) = frames m c := rfl

section Reads

variable (V : Valuation τ sig (Elt Ideal))

/-- The share of a new frame, as the loop holds it. -/
def gainAt : EReal := (V (Proc.devRef .tc main_v6_1) : FVec Ideal S_ .f32) ix0

/-- The frames the loop reads, time first: all but the first. -/
def frameAt (t : Fin 16383) (b : Fin 16) (f : Fin 128) : EReal :=
  (V (Proc.devRef .tc main_v6_0) : FVec Ideal S16383x16x128 .f32) (ix3 t b f)

/-- The smoothed energy the loop carries. -/
def meanAt (b : Fin 16) (f : Fin 128) : EReal := (V (Proc.devRef .tc main_v6_3) : FVec Ideal S16x128 .f32) (ix2 b f)

/-- The smoothed energies the loop has stored, time first. -/
def storedAt (t : Fin 16383) (b : Fin 16) (f : Fin 128) : EReal :=
  (V (Proc.devRef .tc main_v6_4) : FVec Ideal S16383x16x128 .f32) (ix3 t b f)

/-- One step of the recurrence on one channel, from the contents `V` at trip `k`. -/
def stepAt (b : Fin 16) (f : Fin 128) : EReal := (res_main_while0b_v27 V : FVec Ideal S16x128 .f32) (ix2 b f)

end Reads

/-- The share of a new frame, at the loop's entry. -/
theorem entry_gain : gainAt (entryContents preI m c) = gain := by
  unfold gainAt
  simp only [entryContents, preI, afterL_cons, afterL_nil]
  after_results
  simp only [id]
  pointwise [Consts.ofBits_forty]
  rw [Ideal.div, if_neg (by norm_num), one_mul, ← EReal.coe_inv, gain]
  norm_num

/-- The frames the loop reads, at its entry. -/
theorem entry_frame (t : Fin 16383) (b : Fin 16) (f : Fin 128) :
    frameAt (entryContents preI m c) t b f = channel (frames m c) b f (t + 1) := by
  unfold frameAt
  simp only [entryContents, preI, afterL_cons, afterL_nil]
  after_results
  simp only [id]
  pointwise
  have h := channel_apply (frames m c) b ⟨1 + t, by omega⟩ f
  rw [frames_eq, ← h]
  exact congrArg (channel (frames m c) b f) (Nat.add_comm 1 t.val)

/-- The carried energy to begin with: the first frame. -/
theorem entry_mean (b : Fin 16) (f : Fin 128) :
    meanAt (entryContents preI m c) b f = channel (frames m c) b f 0 := by
  unfold meanAt
  simp only [entryContents, preI, afterL_cons, afterL_nil]
  after_results
  simp only [id]
  pointwise
  exact (channel_apply (frames m c) b 0 f).symm

/-- Row `k` is inside the loop's frames. -/
theorem slices_row (k : Fin 16383) : S16383x16x128.Slices ![k.val, 0, 0] S1x16x128 := ⟨rfl, fun a => by
  fin_cases a
  · show k.val + 1 ≤ 16383
    omega
  · exact Nat.le_refl 16
  · exact Nat.le_refl 128⟩

/-- The loop's counter at trip `k`, as the start of row `k`. -/
theorem row_start (k : Fin 16383) (a : Fin 3) :
    (((![fun _ => BitVec.ofNat 32 k, constantI S_ 32 0#32, constantI S_ 32 0#32] : Fin 3 → IVec S_ 32)) a (Shape.Idx.first h_S_)).toInt
      = ((![k.val, 0, 0] : Fin 3 → ℕ) a : Int) := by
  fin_cases a
  · exact toInt_ofNat_of_lt (by omega)
  · rfl
  · rfl

/-- One step of the loop on one channel, from any contents at trip `k`. -/
theorem step_apply (V : Valuation τ sig (Elt Ideal)) (k : Fin 16383)
    (hk : V (Proc.devRef .tc main_v6_2) = fun _ => BitVec.ofNat 32 k) (b : Fin 16) (f : Fin 128) :
    stepAt V b f = (1 - gainAt V) * meanAt V b f + gainAt V * frameAt V k b f := by
  unfold stepAt res_main_while0b_v27
  clean_types
  rw [Host.dynamicSlice_eq_extractStridedSlice S1x16x128 _ _ ![k.val, 0, 0] _ (slices_row k)]
  · pointwise
    rfl
  · rw [hk]
    exact row_start k

/-- A row stored at row `k` of the energies: row `k` is the stored row, the others are kept. -/
theorem store_row (x : FVec Ideal S16383x16x128 .f32) (u : FVec Ideal S1x16x128 .f32) (start : Fin 3 → Int) (k : Fin 16383)
    (hs : ∀ a, start a = ((![k.val, 0, 0] : Fin 3 → ℕ) a : Int)) (h : S16383x16x128.Slices (fun _ => 0) S1x16x128)
    (t : Fin 16383) (b : Fin 16) (f : Fin 128) :
    Host.dynamicUpdateSlice x u start h (ix3 t b f) = if t = k then u (ix3 0 b f) else x (ix3 t b f) := by
  have hk := k.isLt
  rw [Host.dynamicUpdateSlice_eq_updateSlice x u start h ![k.val, 0, 0] (fun a => by
    rw [hs a]
    fin_cases a
    · show (min (max (k.val : Int) 0) ((16383 - 1 : ℕ) : Int)).toNat = k.val
      omega
    · rfl
    · rfl) (slices_row k)]
  pointwise
  by_cases e : t = k
  · subst e
    simp
  · have : ¬ (k.val ≤ t.val ∧ t.val < k.val + 1) := fun h => e (Fin.ext (by omega))
    simp only [e, if_false]
    simp
    exact fun hp hq => absurd (le_antisymm hq hp) e

/-- What one trip stores: its step, in row `k`; the other rows are kept. -/
theorem stored_apply (V : Valuation τ sig (Elt Ideal)) (k : Fin 16383)
    (hk : V (Proc.devRef .tc main_v6_2) = fun _ => BitVec.ofNat 32 k) (t : Fin 16383) (b : Fin 16) (f : Fin 128) :
    storedAt (afterL bodyI V) t b f = if t = k then stepAt V b f else storedAt V t b f := by
  unfold storedAt
  rw [trip_main_v6_4, hk]
  refine (store_row _ _ _ k (row_start k) _ t b f).trans ?_
  pointwise
  rfl

/-- A buffer that neither the condition nor the body writes is at every trip what it was at the loop's entry. -/
theorem atK_keep (r : Ref sig .tc)
    (hr : r ∉ condOps_W ++ (while0Ops0_W ++ (while0Ops0_1_W ++ (while0Ops0_2_W ++ while0Ops0_3_W)))) :
    ∀ k, atK m k c (Proc.devRef .tc r) = entryContents preI m c (Proc.devRef .tc r)
  | 0 => rfl
  | k + 1 => by
    have h := hr
    simp only [List.mem_append, not_or] at h
    rw [show atK m (k + 1) c = afterL bodyI (after condOps (atK m k c)) from rfl]
    simp only [afterL_cons, afterL_nil]
    rw [after_of_writes_sub _ _ while0Ops0_3_writes h.2.2.2.2, after_of_writes_sub _ _ while0Ops0_2_writes h.2.2.2.1,
      after_of_writes_sub _ _ while0Ops0_1_writes h.2.2.1, after_of_writes_sub _ _ while0Ops0_writes h.2.1,
      after_of_writes_sub _ _ condOps_writes h.1, atK_keep r hr k]
    rfl

/-- The contents the body of trip `k` starts from. -/
def bodyAt (k : ℕ) : Valuation τ sig (Elt Ideal) := after condOps (atK m k c)

/-- One trip more is the body applied once more. -/
theorem atK_succ (k : ℕ) : atK m (k + 1) c = afterL bodyI (bodyAt m c k) := rfl

/-- The share of a new frame and the frames the loop reads stay what they were at its entry. -/
theorem atK_gain (k : ℕ) : gainAt (atK m k c) = gain := by
  induction k with
  | zero => exact entry_gain m c
  | succ k ih => rw [atK_succ, gainAt, trip_main_v6_1, bodyAt, cond_keeps _ main_v6_1 (by decide)]; exact ih

/-- No trip changes the frames the loop reads. -/
theorem atK_frame (k : ℕ) (t : Fin 16383) (b : Fin 16) (f : Fin 128) :
    frameAt (atK m k c) t b f = channel (frames m c) b f (t + 1) := by
  induction k with
  | zero => exact entry_frame m c t b f
  | succ k ih => rw [atK_succ, frameAt, trip_main_v6_0, bodyAt, cond_keeps _ main_v6_0 (by decide)]; exact ih

/-- The step of trip `k` is the recurrence on the energy carried into it. -/
theorem step_energy (k : Fin 16383) (b : Fin 16) (f : Fin 128)
    (ih : meanAt (atK m k c) b f = energy (channel (frames m c) b f) k) :
    stepAt (bodyAt m c k) b f = energy (channel (frames m c) b f) (k + 1) := by
  have h : stepAt (bodyAt m c k) b f = stepAt (atK m k c) b f := by
    unfold stepAt bodyAt
    rw [res_main_while0b_v27_congr (cond_keeps _)]
  rw [h, step_apply _ k ((atK_ctr m c k).trans (funext fun _ => by simp [Scf.iv])), atK_gain, atK_frame, ih]
  have hd : 1 - gain = decay := by
    rw [gain, decay, ← EReal.coe_one, ← EReal.coe_sub]; norm_num
  rw [hd]
  rfl

/-- The energy the loop carries into trip `k` is the smoothed energy at frame `k`. -/
theorem atK_mean (b : Fin 16) (f : Fin 128) : ∀ k, k ≤ 16383 →
    meanAt (atK m k c) b f = energy (channel (frames m c) b f) k
  | 0, _ => entry_mean m c b f
  | k + 1, h => by
    rw [← step_energy m c ⟨k, h⟩ b f (atK_mean b f k (by omega)), atK_succ, meanAt, trip_main_v6_3]
    rfl

/-- After `k` trips row `t < k` of the stored energies is the smoothed energy at frame `t + 1`. -/
theorem atK_stored (b : Fin 16) (f : Fin 128) (t : Fin 16383) : ∀ k, k ≤ 16383 → t.val < k →
    storedAt (atK m k c) t b f = energy (channel (frames m c) b f) (t + 1)
  | 0, _, h => absurd h (by omega)
  | k + 1, hk, h => by
    have hctr : bodyAt m c k (Proc.devRef .tc main_v6_2) = fun _ => BitVec.ofNat 32 k := by
      rw [bodyAt, cond_keeps _ main_v6_2 (by decide), atK_ctr]
      exact funext fun _ => by simp [Scf.iv]
    rw [atK_succ, stored_apply _ ⟨k, hk⟩ hctr]
    by_cases e : t = ⟨k, hk⟩
    · rw [if_pos e, step_energy m c ⟨k, hk⟩ b f (atK_mean m c b f k (by omega)), e]
    · rw [if_neg e, ← atK_stored b f t k (by omega) (by have : t.val ≠ k := fun h => e (Fin.ext h); omega)]
      rw [storedAt, bodyAt, cond_keeps _ main_v6_4 (by decide)]
      rfl

end Cert.RefLoop

end
-- ==== Proof.RefRun.lean ====
/- The reference's run: its result is `Channel.result` of its frames, which it leaves as they were. -/
module

public import proofs.«01_k».proof.Proof.RefLoop
public import Idealize.ShloMosaic.Lib.Quiescent

@[expose] public section

set_option maxRecDepth 16384

noncomputable section

namespace Cert.RefRun

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.Smooth Cert.Channel Cert.RefLoop

variable (m : (ℓ : Loc nD τ sig) → Buf (Elt Ideal) ℓ) (c : Dev nD) (ρ : Dev nD → PrngReg)

/-- The first row of the frames, which the reference puts before the stored energies. -/
def firstAt (V : Valuation τ sig (Elt Ideal)) (b : Fin 16) (f : Fin 128) : EReal :=
  (V (Proc.devRef .tc main_v3) : FVec Ideal S16x128 .f32) (ix2 b f)

/-- As the loop is entered, the first frames are those of the argument. -/
theorem entry_first (b : Fin 16) (f : Fin 128) : firstAt (entryContents preI m c) b f = channel (frames m c) b f 0 := by
  unfold firstAt
  simp only [entryContents, preI, afterL_cons, afterL_nil]
  after_results
  pointwise
  exact (channel_apply (frames m c) b 0 f).symm

/-- The contents after the loop. -/
def loopEnd : Valuation τ sig (Elt Ideal) := after condOps (atK m 16383 c)

/-- As the loop ends, the first frames are those of the argument. -/
theorem loopEnd_first (b : Fin 16) (f : Fin 128) : firstAt (loopEnd m c) b f = channel (frames m c) b f 0 := by
  rw [← entry_first, firstAt, loopEnd, after_of_writes_sub _ _ condOps_writes (by decide +kernel),
    atK_keep m c main_v3 (by decide +kernel)]
  rfl

/-- As the loop ends, every stored row is the smoothed energy of its frame. -/
theorem loopEnd_stored (t : Fin 16383) (b : Fin 16) (f : Fin 128) :
    storedAt (loopEnd m c) t b f = energy (channel (frames m c) b f) (t + 1) := by
  rw [← atK_stored m c b f t 16383 le_rfl t.isLt, storedAt, loopEnd, cond_keeps _ main_v6_4 (by decide)]
  rfl

/-- As the loop ends, the argument is as it was. -/
theorem loopEnd_arg0 : loopEnd m c (Proc.devRef .tc main_arg0) = frames m c := by
  rw [loopEnd, after_of_writes_sub _ _ condOps_writes (by decide +kernel), atK_keep m c main_arg0 (by decide +kernel)]
  simp only [entryContents, preI, afterL_cons, afterL_nil]
  rw [after_of_writes_sub _ _ hostOps0_writes (by decide +kernel)]
  rfl

/-- The reference leaves its frames as they were. -/
theorem final_arg0 : finalContents condOps preI bodyI postI 16383 m c (Proc.devRef .tc main_arg0) = frames m c := by
  rw [← loopEnd_arg0 m c]
  show afterL postI (loopEnd m c) _ = _
  simp only [postI, afterL_cons, afterL_nil]
  after_results

/-- The reference's result. -/
theorem final_v20 : finalContents condOps preI bodyI postI 16383 m c (Proc.devRef .tc main_v20) = result (frames m c) := by
  show afterL postI (loopEnd m c) _ = _
  simp only [postI, afterL_cons, afterL_nil]
  after_results
  funext i
  obtain ⟨b, t, f, rfl⟩ : ∃ (b : Fin 16) (t : Fin 16384) (f : Fin 128), i = ix3 b t f := ⟨i 0, i 1, i 2, eq_ix3 i⟩
  clean_types
  pointwise [Consts.ofBits_eps, Consts.ofBits_alpha, Consts.ofBits_two, Consts.ofBits_half, Consts.ofBits_root]
  have he : (if h : t.val < 1 then firstAt (loopEnd m c) b f else storedAt (loopEnd m c) ⟨t.val - 1, by omega⟩ b f)
      = energy (channel (frames m c) b f) t := by
    split
    · rw [loopEnd_first, show t.val = 0 by omega]; rfl
    · rw [loopEnd_stored]
      show energy _ (t.val - 1 + 1) = _
      rw [Nat.sub_add_cancel (by omega)]
  rw [loopEnd_arg0, result_apply, GainEq.value, ← he]
  rfl

/-- Every run of the reference ends with its result, its frames unchanged and every counter at zero. -/
theorem run : θ_run (defs (F := Ideal)) (onTc (τ := τ) (main (F := Ideal))) ⟨m, fun _ => 0, ρ⟩ (fun r =>
    (∀ c : Dev nD, r.2.mem ((c.tc : Thread nD τ).loc main_v20) = result (frames m c)
      ∧ r.2.mem ((c.tc : Thread nD τ).loc main_arg0) = m ((c.tc : Thread nD τ).loc main_arg0))
    ∧ r.2.sem = fun _ => 0) :=
  (θ_run defs _ _).mono (fun r h =>
    ⟨fun c => ⟨(h c main_v20 rfl).trans (final_v20 m c), (h c main_arg0 rfl).trans (final_arg0 m c)⟩,
      sem_eq_zero_of_no_sems rfl _⟩) (run_fold m ρ)

end Cert.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonnegative
public import proofs.«01_k».proof.Proof.Gen.KernelIdeal.Value
public import proofs.«01_k».proof.Proof.Gen.ReferenceIdeal.Run
public import proofs.«01_k».proof.Proof.Array
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference runs from any memory, leaves its argument unchanged and every semaphore at zero. -/
theorem reference_frame : quiescent_ReferenceIdeal := fun m ρ _ =>
  (θ_run _ _ _).mono (fun _ h => ⟨fun c => (h.1 c).2, h.2⟩) (RefRun.run m ρ)

/-- Under the precondition no frame the kernel is given is negative. -/
theorem frames_nonneg (m : (ℓ : Loc Cert.KernelIdeal.nD Cert.KernelIdeal.τ Cert.KernelIdeal.sig) → Buf (Elt Ideal) ℓ)
    (h : Pre_KernelIdeal_nonnegative m) (c : Dev Cert.KernelIdeal.nD) (i : S16x16384x128.Idx) : (0 : EReal) ≤ Table.frames m c i := by
  have hi := congrFun (h c) i
  change BitVec.ofBool (decide (Ideal.ofBits .f32 0x00000000#32 ≤ Table.frames m c i)) = 1#1 at hi
  rw [Consts.ofBits_zero] at hi
  by_contra hn
  rw [decide_eq_false hn] at hi
  exact absurd hi (by decide)

/-- Both named constants are the values the ideal reading gives them. -/
theorem preserves : preserves_Kernel_KernelIdeal :=
  ⟨IdealRules.named_const.statement _ _ _ _ _ rfl, IdealRules.named_const.statement _ _ _ _ _ rfl⟩

/-- On frames nowhere negative the kernel and the reference end with equal results: at every frame of every channel the
    gain-controlled value over the smoothed energy. -/
theorem algebraic : algebraic_KernelIdeal_ReferenceIdeal_pre_nonnegative := by
  intro m ρ m' ρ' hpre hagree
  refine ⟨_, Cert.KernelIdeal.Value.run m ρ, (θ_run _ _ _).mono (fun r h c => ⟨?_, (h.1 c).2⟩) (RefRun.run m' ρ')⟩
  exact (h.1 c).1.trans ((congrArg Channel.result (hagree c)).trans (Array.array_eq m c (frames_nonneg m hpre c)).symm)

/-- Everything claimed of the kernel and the reference. -/
theorem claim : Cert.Claim :=
  ⟨Cert.Kernel.Gen.facts, Cert.KernelIdeal.Gen.facts, Cert.ReferenceIdeal.Gen.facts, Cert.Pre_nonnegative.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserves, algebraic⟩

end Cert.Proof

end
